-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_two_untied [hPre_top_two_untied : Cert.Pre_top_two_untied.Facts] (m : (ℓ : Loc Cert.KernelIdeal.nD Cert.KernelIdeal.τ Cert.KernelIdeal.sig) → Buf (Elt Ideal) ℓ) : Prop :=
  ∀ c : Dev Cert.KernelIdeal.nD,
    (Cert.Pre_top_two_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_two_untied [hPre_top_two_untied : Cert.Pre_top_two_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_two_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_top_two_untied [hKernelIdeal : Cert.KernelIdeal.Facts] [hPre_top_two_untied : Cert.Pre_top_two_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_two_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_top_two_untied [hReferenceIdeal : Cert.ReferenceIdeal.Facts] [hPre_top_two_untied : Cert.Pre_top_two_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_two_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_top_two_untied [hKernelIdeal : Cert.KernelIdeal.Facts] [hReferenceIdeal : Cert.ReferenceIdeal.Facts] [hPre_top_two_untied : Cert.Pre_top_two_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_two_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_top_two_untied : Cert.Pre_top_two_untied.Facts),
    quiescent_Kernel (hKernel := hKernel)
    ∧ quiescent_KernelIdeal (hKernelIdeal := hKernelIdeal)
    ∧ quiescent_KernelIdeal_pre_top_two_untied (hKernelIdeal := hKernelIdeal) (hPre_top_two_untied := hPre_top_two_untied)
    ∧ quiescent_ReferenceIdeal (hReferenceIdeal := hReferenceIdeal)
    ∧ quiescent_ReferenceIdeal_pre_top_two_untied (hReferenceIdeal := hReferenceIdeal) (hPre_top_two_untied := hPre_top_two_untied)
    ∧ preserves_Kernel_KernelIdeal
    ∧ algebraic_KernelIdeal_ReferenceIdeal_pre_top_two_untied (hKernelIdeal := hKernelIdeal) (hReferenceIdeal := hReferenceIdeal) (hPre_top_two_untied := hPre_top_two_untied)
-- ==== Pre_top_two_untied.lean ====
abbrev S4x2048x1024 : Shape := ⟨3, ![4, 2048, 1024]⟩
abbrev S_ : Shape := ⟨0, ![]⟩
abbrev S1024x8 : Shape := ⟨2, ![1024, 8]⟩
abbrev S8x1024x16 : Shape := ⟨3, ![8, 1024, 16]⟩
abbrev S8x16x1024 : Shape := ⟨3, ![8, 16, 1024]⟩
abbrev S8192x1024 : Shape := ⟨2, ![8192, 1024]⟩
abbrev S8192x8 : Shape := ⟨2, ![8192, 8]⟩
abbrev S8192x3 : Shape := ⟨2, ![8192, 3]⟩
abbrev S8192x1 : Shape := ⟨2, ![8192, 1]⟩
abbrev S8192 : Shape := ⟨1, ![8192]⟩

class Facts : Prop where
  shapeCasts_S4x2048x1024_S8192x1024 : S4x2048x1024.ShapeCasts S8192x1024
  sliceFits_S8192x8_S8192x3 : S8192x8.Slices (fun _ => 0) S8192x3
  slices_S8192x3_S8192x1_0_0 : S8192x3.Slices ![0, 0] S8192x1
  shapeCasts_S8192x1_S8192 : S8192x1.ShapeCasts S8192
  bcast_S_S8192 : S_.BroadcastsInDim S8192 (![] : Fin 0 → Fin S8192.rank)
  slices_S8192x3_S8192x1_0_1 : S8192x3.Slices ![0, 1] S8192x1
  slices_S8192x3_S8192x1_0_2 : S8192x3.Slices ![0, 2] S8192x1
  dot_S8192x1024_S1024x8_S8192x8_1_0_0_1_n_n_wf : DotDims.WF S8192x1024 S1024x8 S8192x8 [1] [0] [0] [1] [] []

variable [Facts]

def dot_S8192x1024_S1024x8_S8192x8_1_0_0_1_n_n : DotDims S8192x1024 S1024x8 S8192x8 where
  lhsContracting := [1]
  rhsContracting := [0]
  lhsNonContracting := [0]
  rhsNonContracting := [1]
  lhsBatch := []
  rhsBatch := []
  wf := dot_S8192x1024_S1024x8_S8192x8_1_0_0_1_n_n_wf
def fn {F : FTy → Type} [FloatOps F] (main_arg0 : FVec F S4x2048x1024 .f32) (main_arg1 : IVec S_ 32) (main_arg2 : IVec S_ 32) (main_arg3 : FVec F S1024x8 .f32) (main_arg4 : FVec F S8x1024x16 .f32) (main_arg5 : FVec F S8x16x1024 .f32) : IVec S8192 1 :=
  let main_v0 : FVec F S8192x1024 .f32 := shapeCast S8192x1024 main_arg0 shapeCasts_S4x2048x1024_S8192x1024
  let main_v1 : FVec F S8192x8 .f32 := (fun l r => Host.dotGeneral dot_S8192x1024_S1024x8_S8192x8_1_0_0_1_n_n none l r) main_v0 main_arg3
  let main_values : FVec F S8192x3 .f32 := (fun x => (Host.topK S8192x3 1 (FloatOps.cmpfTotal .gt) x sliceFits_S8192x8_S8192x3).1) main_v1
  let main_indices : IVec S8192x3 32 := (fun x => (Host.topK S8192x3 1 (FloatOps.cmpfTotal .gt) x sliceFits_S8192x8_S8192x3).2) main_v1
  let main_v2 : FVec F S8192x1 .f32 := (extractStridedSlice S8192x1 ![0, 0] · slices_S8192x3_S8192x1_0_0) main_values
  let main_v3 : FVec F S8192 .f32 := shapeCast S8192 main_v2 shapeCasts_S8192x1_S8192
  let main_cst : FVec F S_ .f32 := constant S_ .f32 0x7F800000#32
  let main_v4 : FVec F S8192 .f32 := broadcastInDim S8192 ![] bcast_S_S8192 main_cst
  let main_v5 : IVec S8192 1 := cmpf .olt main_v3 main_v4
  let main_v6 : FVec F S8192x1 .f32 := (extractStridedSlice S8192x1 ![0, 0] · slices_S8192x3_S8192x1_0_0) main_values
  let main_v7 : FVec F S8192 .f32 := shapeCast S8192 main_v6 shapeCasts_S8192x1_S8192
  let main_v8 : FVec F S8192x1 .f32 := (extractStridedSlice S8192x1 ![0, 1] · slices_S8192x3_S8192x1_0_1) main_values
  let main_v9 : FVec F S8192 .f32 := shapeCast S8192 main_v8 shapeCasts_S8192x1_S8192
  let main_v10 : IVec S8192 1 := cmpf .ogt main_v7 main_v9
  let main_v11 : FVec F S8192x1 .f32 := (extractStridedSlice S8192x1 ![0, 1] · slices_S8192x3_S8192x1_0_1) main_values
  let main_v12 : FVec F S8192 .f32 := shapeCast S8192 main_v11 shapeCasts_S8192x1_S8192
  let main_v13 : FVec F S8192x1 .f32 := (extractStridedSlice S8192x1 ![0, 2] · slices_S8192x3_S8192x1_0_2) main_values
  let main_v14 : FVec F S8192 .f32 := shapeCast S8192 main_v13 shapeCasts_S8192x1_S8192
  let main_v15 : IVec S8192 1 := cmpf .ogt main_v12 main_v14
  let main_v16 : IVec S8192 1 := andi main_v10 main_v15
  let main_v17 : IVec S8192 1 := andi main_v5 main_v16
  main_v17
-- ==== Kernel.lean ====
abbrev S4x2048x1024 : Shape := ⟨3, ![4, 2048, 1024]⟩
abbrev S_ : Shape := ⟨0, ![]⟩
abbrev S1024x8 : Shape := ⟨2, ![1024, 8]⟩
abbrev S8x1024x16 : Shape := ⟨3, ![8, 1024, 16]⟩
abbrev S8x16x1024 : Shape := ⟨3, ![8, 16, 1024]⟩
abbrev S128 : Shape := ⟨1, ![128]⟩
abbrev S8192x1024 : Shape := ⟨2, ![8192, 1024]⟩
abbrev S128x1 : Shape := ⟨2, ![128, 1]⟩
abbrev S1024x128 : Shape := ⟨2, ![1024, 128]⟩
abbrev S1024x8x16 : Shape := ⟨3, ![1024, 8, 16]⟩
abbrev S128x1024 : Shape := ⟨2, ![128, 1024]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S_, .i32⟩
  | .hbm, ⟨2, _⟩ => ⟨S_, .i32⟩
  | .hbm, ⟨3, _⟩ => ⟨S1024x8, .f32⟩
  | .hbm, ⟨4, _⟩ => ⟨S8x1024x16, .f32⟩
  | .hbm, ⟨5, _⟩ => ⟨S8x16x1024, .f32⟩
  | .hbm, ⟨6, _⟩ => ⟨S128, .i32⟩
  | .hbm, ⟨7, _⟩ => ⟨S128, .i1⟩
  | .hbm, ⟨8, _⟩ => ⟨S8192x1024, .f32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S1024x128, .f32⟩
  | .hbm, ⟨15, _⟩ => ⟨S1024x8x16, .f32⟩
  | .hbm, ⟨16, _⟩ => ⟨S1024x128, .f32⟩
  | .hbm, ⟨17, _⟩ => ⟨S1024x128, .bf16⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .bf16⟩
  | .hbm, ⟨23, _⟩ => ⟨S8192x1024, .f32⟩
  | .hbm, ⟨24, _⟩ => ⟨S4x2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .bf16⟩
  | .local _ .vmem, ⟨4, _⟩ => ⟨S128x1024, .bf16⟩
  | .local _ .vmem, ⟨5, _⟩ => ⟨S2048x1024, .f32⟩
  | .local _ .vmem, ⟨6, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊤
  | _ => none
-- ==== ReferenceIdeal.lean ====
abbrev S4x2048x1024 : Shape := ⟨3, ![4, 2048, 1024]⟩
abbrev S_ : Shape := ⟨0, ![]⟩
abbrev S1024x8 : Shape := ⟨2, ![1024, 8]⟩
abbrev S8x1024x16 : Shape := ⟨3, ![8, 1024, 16]⟩
abbrev S8x16x1024 : Shape := ⟨3, ![8, 16, 1024]⟩
abbrev S8192x1024 : Shape := ⟨2, ![8192, 1024]⟩
abbrev S8192x8 : Shape := ⟨2, ![8192, 8]⟩
abbrev S8192x2 : Shape := ⟨2, ![8192, 2]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S8192x8x16 : Shape := ⟨3, ![8192, 8, 16]⟩
abbrev S8192x8x1 : Shape := ⟨3, ![8192, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S_, .i32⟩
  | .hbm, ⟨2, _⟩ => ⟨S_, .i32⟩
  | .hbm, ⟨3, _⟩ => ⟨S1024x8, .f32⟩
  | .hbm, ⟨4, _⟩ => ⟨S8x1024x16, .f32⟩
  | .hbm, ⟨5, _⟩ => ⟨S8x16x1024, .f32⟩
  | .hbm, ⟨6, _⟩ => ⟨S8192x1024, .f32⟩
  | .hbm, ⟨7, _⟩ => ⟨S8192x8, .f32⟩
  | .hbm, ⟨8, _⟩ => ⟨S8192x2, .f32⟩
  | .hbm, ⟨9, _⟩ => ⟨S8192x2, .i32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x2, .f32⟩
  | .hbm, ⟨17, _⟩ => ⟨S8192x2, .f32⟩
  | .hbm, ⟨18, _⟩ => ⟨S8192x2, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x2, .f32⟩
  | .hbm, ⟨23, _⟩ => ⟨S8192x2, .f32⟩
  | .hbm, ⟨24, _⟩ => ⟨S_, .f32⟩
  | .hbm, ⟨25, _⟩ => ⟨S8192x8, .f32⟩
  | .hbm, ⟨26, _⟩ => ⟨S8192, .i32⟩
  | .hbm, ⟨27, _⟩ => ⟨S8192x1, .i32⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S_, .i32⟩
  | .hbm, ⟨32, _⟩ => ⟨S8192x1, .i32⟩
  | .hbm, ⟨33, _⟩ => ⟨S8192x1, .i32⟩
  | .hbm, ⟨34, _⟩ => ⟨S8192x1, .i32⟩
  | .hbm, ⟨35, _⟩ => ⟨S_, .i32⟩
  | .hbm, ⟨36, _⟩ => ⟨S8192x2, .i32⟩
  | .hbm, ⟨37, _⟩ => ⟨S8192x2, .i1⟩
  | .hbm, ⟨38, _⟩ => ⟨S_, .i32⟩
  | .hbm, ⟨39, _⟩ => ⟨S8192x2, .i32⟩
  | .hbm, ⟨40, _⟩ => ⟨S8192x2, .i32⟩
  | .hbm, ⟨41, _⟩ => ⟨S8192x2, .i32⟩
  | .hbm, ⟨42, _⟩ => ⟨S8192x2, .i32⟩
  | .hbm, ⟨43, _⟩ => ⟨S8192x2x1, .i32⟩
  | .hbm, ⟨44, _⟩ => ⟨S8192x2x1, .i32⟩
  | .hbm, ⟨45, _⟩ => ⟨S8192x2x2, .i32⟩
  | .hbm, ⟨46, _⟩ => ⟨S8192x8, .f32⟩
  | .hbm, ⟨47, _⟩ => ⟨S8192x8x16, .f32⟩
  | .hbm, ⟨48, _⟩ => ⟨S8192x8x1, .f32⟩
  | .hbm, ⟨49, _⟩ => ⟨S8192x8x16, .f32⟩
  | .hbm, ⟨50, _⟩ => ⟨S8192x8x16, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Gates.lean ====
/- The arithmetic of one token's gates, on extended reals and away from any program. `laneGate` is what the kernel computes
   from a row of lanes: the maximum, the maximum once the lanes at the maximum are pushed to −∞, the logistic of their
   difference. `softmax` is that of a row of numbers. Of a row of logits with two strict leaders (`Leaders`), spread
   over lanes, the two agree (`laneGate_leaders`). -/
module

public import Idealize.ShloMosaic.PureOps.Ideal

@[expose] public section

noncomputable section

namespace Cert.Gates

open Idealize.ShloMosaic

/-- One where the two numbers are equal, zero elsewhere. -/
def hot (x y : EReal) : EReal := if x = y then 1 else 0

/-- Equal numbers give one. -/
theorem hot_self (x : EReal) : hot x x = 1 := if_pos rfl

/-- Unequal numbers give zero. -/
theorem hot_ne {x y : EReal} (h : x ≠ y) : hot x y = 0 := if_neg h

/-- The greatest entry of a row, −∞ of an empty one. -/
def top {ι : Type} [Fintype ι] (f : ι → EReal) : EReal := Finset.univ.fold max ⊥ f

/-- The row with its greatest entries pushed to −∞. -/
def rest {ι : Type} [Fintype ι] (f : ι → EReal) (i : ι) : EReal := f i - hot (f i) (top f) * ⊤

/-- The weight the kernel gives the first expert. -/
def lead {ι : Type} [Fintype ι] (f : ι → EReal) : EReal := Ideal.logistic (top f - top (rest f))

/-- The gate the kernel computes at lane `i` of a row. -/
def laneGate {ι : Type} [Fintype ι] (f : ι → EReal) (i : ι) : EReal :=
  hot (f i) (top f) * lead f + hot (rest f i) (top (rest f)) * (1 - lead f)

/-- An entry no other exceeds is the greatest one. -/
theorem top_eq {ι : Type} [Fintype ι] (f : ι → EReal) (i : ι) (h : ∀ k, f k ≤ f i) : top f = f i :=
  le_antisymm ((Finset.fold_max_le _).2 ⟨bot_le, fun k _ => h k⟩) ((Finset.le_fold_max _).2 (.inr ⟨i, Finset.mem_univ _, le_rfl⟩))

/-- Entries `p` and `q` lead the row: `p` below +∞ and strictly above `q`, and `q` strictly above every other entry and
    above −∞. -/
structure Leaders {ι : Type} (l : ι → EReal) (p q : ι) : Prop where
  finite : l p < ⊤
  second : ⊥ < l q
  first : l q < l p
  others : ∀ e, e ≠ p → e ≠ q → l e < l q

namespace Leaders

variable {ι : Type} {l : ι → EReal} {p q : ι} (H : Leaders l p q)
include H

/-- The two leaders are not one. -/
theorem ne : q ≠ p := fun h => (h ▸ H.first).ne rfl

/-- Every other entry is below the first leader. -/
theorem lt_first {e : ι} (h : e ≠ p) : l e < l p := by
  by_cases hq : e = q
  · exact hq ▸ H.first
  · exact (H.others e h hq).trans H.first

/-- Every entry but the first leader is at most the second. -/
theorem le_second {e : ι} (h : e ≠ p) : l e ≤ l q := by
  by_cases hq : e = q
  · exact hq ▸ le_rfl
  · exact (H.others e h hq).le

/-- Both leaders are real numbers, the first the greater. -/
theorem reals : ∃ a b : ℝ, l p = (a : EReal) ∧ l q = (b : EReal) :=
  ⟨(l p).toReal, (l q).toReal, (EReal.coe_toReal H.finite.ne (H.second.trans H.first).ne').symm,
    (EReal.coe_toReal (H.first.trans H.finite).ne H.second.ne').symm⟩

end Leaders

section Lanes

variable {ι κ : Type} [Fintype κ] {l : ι → EReal} {p q : ι} (s : κ → ι)

/-- The greatest lane holds the first leader. -/
theorem top_lanes (H : Leaders l p q) (hs : Function.Surjective s) : top (fun c => l (s c)) = l p := by
  obtain ⟨c, hc⟩ := hs p
  rw [top_eq (fun c => l (s c)) c fun k => ?_]
  · exact congrArg l hc
  · change l (s k) ≤ l (s c)
    rw [hc]
    by_cases h : s k = p
    · rw [h]
    · exact (H.lt_first h).le

/-- The first leader's lanes are pushed to −∞. -/
theorem rest_first (H : Leaders l p q) (hs : Function.Surjective s) {c : κ} (hc : s c = p) : rest (fun c => l (s c)) c = ⊥ := by
  unfold rest
  change l (s c) - hot (l (s c)) (top fun c => l (s c)) * ⊤ = ⊥
  rw [top_lanes s H hs, hc, hot_self, one_mul, sub_eq_add_neg, EReal.neg_top, EReal.add_bot]

/-- Every other lane stays as it was. -/
theorem rest_other (H : Leaders l p q) (hs : Function.Surjective s) {c : κ} (hc : s c ≠ p) : rest (fun c => l (s c)) c = l (s c) := by
  unfold rest
  rw [top_lanes s H hs, hot_ne (H.lt_first hc).ne, zero_mul, sub_zero]

/-- The greatest of the remaining lanes holds the second leader. -/
theorem top_rest (H : Leaders l p q) (hs : Function.Surjective s) : top (rest fun c => l (s c)) = l q := by
  obtain ⟨c, hc⟩ := hs q
  have hcp : s c ≠ p := hc ▸ H.ne
  rw [top_eq (rest fun c => l (s c)) c fun k => ?_]
  · rw [rest_other s H hs hcp, hc]
  · rw [rest_other s H hs hcp, hc]
    by_cases h : s k = p
    · rw [rest_first s H hs h]; exact bot_le
    · rw [rest_other s H hs h]; exact H.le_second h

/-- The first weight is the logistic of the leaders' difference. -/
theorem lead_lanes (H : Leaders l p q) (hs : Function.Surjective s) :
    lead (fun c => l (s c)) = Ideal.logistic (l p - l q) := by
  unfold lead
  rw [top_lanes s H hs, top_rest s H hs]

/-- The kernel's gate of a row of logits with two leaders: the logistic of their difference at the first, its complement at
    the second, zero elsewhere. -/
theorem laneGate_lanes [DecidableEq ι] (H : Leaders l p q) (hs : Function.Surjective s) (c : κ) :
    laneGate (fun c => l (s c)) c
      = if s c = p then Ideal.logistic (l p - l q)
        else if s c = q then 1 - Ideal.logistic (l p - l q) else 0 := by
  change hot (l (s c)) (top fun c => l (s c)) * lead (fun c => l (s c))
      + hot (rest (fun c => l (s c)) c) (top (rest fun c => l (s c))) * (1 - lead fun c => l (s c)) = _
  rw [lead_lanes s H hs, top_lanes s H hs, top_rest s H hs]
  by_cases hp : s c = p
  · rw [rest_first s H hs hp, hp, hot_self, hot_ne H.second.ne, one_mul, zero_mul, add_zero, if_pos rfl]
  · rw [rest_other s H hs hp, hot_ne (H.lt_first hp).ne, zero_mul, zero_add, if_neg hp]
    by_cases hq : s c = q
    · rw [hq, hot_self, one_mul, if_pos rfl]
    · rw [hot_ne (H.others _ hp hq).ne, zero_mul, if_neg hq]

end Lanes

/-- The softmax of the numbers `v`, their maximum subtracted first, at `i`. -/
def softmax {ι : Type} [Fintype ι] (v : ι → EReal) (i : ι) : EReal :=
  Ideal.div (Ideal.exp (v i - top v)) (∑ k, Ideal.exp (v k - top v))

/-- The softmax of two reals, the first the greater, is the logistic of their difference and its complement. -/
theorem softmax_two (v : Fin 2 → EReal) (a b : ℝ) (ha : v 0 = (a : EReal)) (hb : v 1 = (b : EReal)) (hab : b ≤ a) :
    softmax v 0 = Ideal.logistic ((a : EReal) - (b : EReal))
      ∧ softmax v 1 = 1 - Ideal.logistic ((a : EReal) - (b : EReal)) := by
  have ht : top v = (a : EReal) := by
    rw [← ha]
    refine top_eq v 0 fun k => ?_
    match k with
    | 0 => exact le_rfl
    | 1 => rw [ha, hb]; exact EReal.coe_le_coe_iff.2 hab
  have hpos : (1 : ℝ) + Real.exp (b - a) ≠ 0 := (add_pos one_pos (Real.exp_pos _)).ne'
  have hsum : (∑ k, Ideal.exp (v k - top v)) = ((1 + Real.exp (b - a) : ℝ) : EReal) := by
    rw [Fin.sum_univ_two, ht, ha, hb, ← EReal.coe_sub, ← EReal.coe_sub, Ideal.exp_coe, Ideal.exp_coe, sub_self, Real.exp_zero,
      ← EReal.coe_add]
  have hsoft : ∀ (i : Fin 2) (x : ℝ), v i = (x : EReal) → softmax v i = ((Real.exp (x - a) * (1 / (1 + Real.exp (b - a))) : ℝ) : EReal) :=
    fun i x hx => by
      unfold softmax
      rw [hsum, ht, hx, ← EReal.coe_sub, Ideal.exp_coe, Ideal.div_coe hpos, ← EReal.coe_mul]
  rw [hsoft 0 a ha, hsoft 1 b hb, ← EReal.coe_sub, Ideal.logistic_coe, ← EReal.coe_one, ← EReal.coe_sub, neg_sub, sub_self,
    Real.exp_zero]
  refine ⟨congrArg _ ?_, congrArg _ ?_⟩
  · rw [one_mul, one_div]
  · field_simp
    ring

/-- The kernel's gate of a row of logits with two leaders is the softmax `v` of the leaders scattered to their places. -/
theorem laneGate_leaders {ι κ : Type} [Fintype κ] [DecidableEq ι] {l : ι → EReal} {p q : ι} (s : κ → ι) (H : Leaders l p q)
    (hs : Function.Surjective s) (v : Fin 2 → EReal) (h0 : v 0 = l p) (h1 : v 1 = l q) (c : κ) :
    laneGate (fun c => l (s c)) c = if s c = p then softmax v 0 else if s c = q then softmax v 1 else 0 := by
  obtain ⟨a, b, ha, hb⟩ := H.reals
  have hab : b ≤ a := EReal.coe_le_coe_iff.1 (by rw [← ha, ← hb]; exact H.first.le)
  obtain ⟨e0, e1⟩ := softmax_two v a b (h0.trans ha) (h1.trans hb) hab
  rw [laneGate_lanes s H hs, e0, e1, ha, hb]

/-- A sum of extended reals doubled is the sum of the doubles. -/
theorem sum_mul_two {ι : Type} (t : Finset ι) (f : ι → EReal) : (∑ i ∈ t, f i) * ((2 : ℝ) : EReal) = ∑ i ∈ t, f i * ((2 : ℝ) : EReal) := by
  classical
  induction t using Finset.induction_on with
  | empty => rw [Finset.sum_empty, Finset.sum_empty, zero_mul]
  | insert a t ha ih =>
    rw [Finset.sum_insert ha, Finset.sum_insert ha, ← ih]
    exact EReal.right_distrib_of_nonneg_of_ne_top (by exact_mod_cast zero_le_two) (EReal.coe_ne_top _) _ _

end Cert.Gates

end
-- ==== Proof.Block.lean ====
/- What the kernel's body writes at one entry of its block: the low-rank projections of the token's row, each weighted by the
   lane's gate (Gates.lean `laneGate`), contracted with the up-projection. -/
module

public import proofs.«01_k».proof.Proof.Gen.KernelIdeal.Skeleton
public import proofs.«01_k».proof.Proof.Gates
public import Idealize.ShloMosaic.Lib.Pointwise

@[expose] public section

set_option maxRecDepth 16384

noncomputable section

namespace Cert.KernelIdeal.Block

open Cert.KernelIdeal Cert.KernelIdeal.Gen Cert.Gates Idealize.ShloMosaic

/-- The comparison bit widened to an integer and read as a float. -/
theorem sitofp_hot (x y : EReal) :
    (FloatOps.sitofp .f32 (BitVec.setWidth 32 (BitVec.ofBool (decide (x = y)))) : Ideal .f32) = hot x y := by
  change (((BitVec.setWidth 32 (BitVec.ofBool (decide (x = y)))).toInt : ℝ) : EReal) = _
  unfold hot
  by_cases h : x = y <;> simp [h]

/-- The named mask is +∞. -/
theorem named_mask : (Named.named κ "mask" 0x7149F2CA#32 : Ideal .f32) = (⊤ : EReal) := by
  rfl

/-- The word of −∞. -/
theorem ofBits_neg_inf : Ideal.ofBits .f32 0xFF800000#32 = (⊥ : EReal) := by
  simp [Ideal.ofBits, Ideal.ieee]

/-- The entry of a token whose row of the activations is `x`, at output feature `D`: `g` the gating weights spread over the
    lanes, `a` and `b` the two projections laid out by lane. -/
def entry (x : Fin 1024 → EReal) (g a : Fin 1024 → Fin 128 → EReal) (b : Fin 128 → EReal) : EReal :=
  ∑ c, (∑ d, x d * a d c) * laneGate (fun c => ∑ d, x d * g d c) c * b c

/-- The block's entry at row `r` and feature `D`. -/
theorem block_at (x : Vec Ideal S2048x1024 .f32) (g : Vec Ideal S1024x128 .f32) (a : Vec Ideal S1024x128 .bf16)
    (b : Vec Ideal S128x1024 .bf16) (r : Fin 2048) (D : Fin 1024) :
    k0_pay1 (F := Ideal) x g a b (ix2 r D)
      = entry (fun d => x (ix2 r d)) (fun d c => g (ix2 d c)) (fun d c => a (ix2 d c)) (fun c => b (ix2 c D)) := by
  pointwise [k0_pay1]
  simp only [sitofp_hot, named_mask, ofBits_neg_inf]
  rfl

end Cert.KernelIdeal.Block

end
-- ==== Proof.KernelValue.lean ====
/- What the array of the kernel's region holds once every block is written (`array_eq`), and what @main's result holds: that
   array reshaped (`result_eq`). -/
module

public import proofs.«01_k».proof.Proof.Gen.KernelIdeal.Frame
public import proofs.«01_k».proof.Proof.Block
public import Idealize.ShloMosaic.Lib.Pipeline.ValueKit
public import Idealize.ShloMosaic.Lib.StableHlo.Run
public import Idealize.ShloMosaic.Lib.Claim

@[expose] public section

set_option maxRecDepth 16384

noncomputable section

namespace Cert.KernelIdeal.Array

open Cert.KernelIdeal Cert.KernelIdeal.Gen Idealize.ShloMosaic Idealize.SL.Sem TcCoe

variable (m : (ℓ : Loc nD τ sig) → Buf (Elt Ideal) ℓ) (ρ : Dev nD → PrngReg) (c : Dev nD)

/-- The array the region leaves, entry by entry, from the arrays it finds. -/
def target : FVec Ideal S8192x1024 .f32 := fun i =>
  Block.entry (fun d => (V m c main_v0 : FVec Ideal S8192x1024 .f32) (ix2 (i 0) d))
    (fun d j => (V m c main_v5 : FVec Ideal S1024x128 .f32) (ix2 d j))
    (fun d j => (V m c main_v8 : FVec Ideal S1024x128 .bf16) (ix2 d j))
    (fun j => (V m c main_v12 : FVec Ideal S128x1024 .bf16) (ix2 j (i 1)))

/-- At point `t` the activations' window and the result's stand at the same rows; every other coordinate of a window is zero. -/
theorem starts (t : Fin cfg0.grid.N) : win0_0.index t 0 = win0_4.index t 0 ∧ win0_0.index t 1 = 0 ∧ win0_1.index t 0 = 0
    ∧ win0_1.index t 1 = 0 ∧ win0_2.index t 0 = 0 ∧ win0_2.index t 1 = 0 ∧ win0_3.index t 0 = 0 ∧ win0_3.index t 1 = 0
    ∧ win0_4.index t 1 = 0 := by
  revert t
  decide +kernel

/-- The array the region leaves is `target`. -/
theorem array_eq : (dats m 0 c).arrAt 4 cfg0.N = target m c := by
  refine (dats m 0 c).arrAt_eq_of_covers 4 _ (by decide +kernel) fun t hf y => ?_
  blk_simp
  rw [after0_4]
  frame_out
  obtain ⟨r, D, rfl⟩ : ∃ r D, y = ix2 r D := ⟨y 0, y 1, by blk_ext⟩
  refine (Block.block_at _ _ _ _ r D).trans ?_
  unfold target
  blk_simp [iblk]
  obtain ⟨s00, s01, s10, s11, s20, s21, s30, s31, s41⟩ := starts t
  have e0 : ∀ d, (win0_0.blk t).view.emb (ix2 r d) = ix2 ((win0_4.blk t).view.emb (ix2 r D) 0) d := fun d => by
    blk_ext <;> simp only [s00, s01, s10, s11, s20, s21, s30, s31, s41, Nat.zero_mul, Nat.zero_add]
  have e1 : ∀ d j, (win0_1.blk t).view.emb (ix2 d j) = ix2 d j := fun d j => by
    blk_ext <;> simp only [s00, s01, s10, s11, s20, s21, s30, s31, s41, Nat.zero_mul, Nat.zero_add]
  have e2 : ∀ d j, (win0_2.blk t).view.emb (ix2 d j) = ix2 d j := fun d j => by
    blk_ext <;> simp only [s00, s01, s10, s11, s20, s21, s30, s31, s41, Nat.zero_mul, Nat.zero_add]
  have e3 : ∀ j, (win0_3.blk t).view.emb (ix2 j D) = ix2 j ((win0_4.blk t).view.emb (ix2 r D) 1) := fun j => by
    blk_ext <;> simp only [s00, s01, s10, s11, s20, s21, s30, s31, s41, Nat.zero_mul, Nat.zero_add]
  simp only [e0, e1, e2, e3]
  rfl

/-- @main's result is the region's array reshaped. -/
theorem result_eq :
    Pipeline.afterTail₀ cfgs (dats m) 0 (V0 m) [hostOps1] c main_v14
      = shapeCast S4x2048x1024 (target m c) shapeCasts_S8192x1024_S4x2048x1024 := by
  unfold Pipeline.afterTail₀
  simp only [hostOps1, List.flatten_cons, List.flatten_nil, List.append_nil, List.cons_append, List.nil_append]
  after_results_simp
  have h := Pipeline.withArrays_arr (cfgs 0).spec (by decide) c (V0 m c) (fun w => (dats m 0 c).arrAt w (cfgs 0).N) 4
  exact congrArg (fun x => shapeCast S4x2048x1024 x shapeCasts_S8192x1024_S4x2048x1024) (h.trans (array_eq m c))

end Cert.KernelIdeal.Array

end
-- ==== Proof.Operands.lean ====
/- The four arrays the kernel's region finds, read at an entry in terms of @main's arguments: the activations flattened, the
   gating weights spread over the lanes, the down-projections laid out by lane, and the up-projections laid out by lane and
   doubled. Lane `c` belongs to expert `c / 16` and rank `c % 16`. -/
module

public import proofs.«01_k».proof.Proof.Gen.KernelIdeal.Frame
public import Idealize.ShloMosaic.Lib.Pointwise
public import Idealize.ShloMosaic.Lib.Claim
public import Idealize.ShloMosaic.Lib.StableHlo.Run
public import Idealize.ShloMosaic.Lib.StableHlo.ReadAt

@[expose] public section

set_option maxRecDepth 16384

noncomputable section

namespace Cert.KernelIdeal.Operands

open Cert.KernelIdeal Cert.KernelIdeal.Gen Idealize.ShloMosaic Idealize.SL.Sem TcCoe

/-- The expert of a lane. -/
def expert (c : Fin 128) : Fin 8 := ⟨c.val / 16, by omega⟩

/-- The rank of a lane. -/
def rank (c : Fin 128) : Fin 16 := ⟨c.val % 16, by omega⟩

/-- The gather along the second axis reads, at `(d, j)`, the operand's row `d` at the column the `j`-th index names. -/
theorem gather_lane (x : FVec Ideal S1024x8 .f32) (idx : IVec S128x1 32) (d : Fin 1024) (j : Fin 128) (e : Fin 8)
    (h : idx (ix2 j 0) = BitVec.ofNat 32 e.val) :
    Host.gather gather_S1024x8_S128x1_S1024x128_0_1_n_n_1_1_10241 x idx (ix2 d j) = x (ix2 d e) := by
  let G := gather_S1024x8_S128x1_S1024x128_0_1_n_n_1_1_10241
  have hsi : G.siIdx (ix2 d j) ⟨0, Nat.one_pos⟩ = ix2 j 0 := by
    funext b
    refine Fin.ext ?_
    match b with
    | ⟨0, _⟩ => rfl
    | ⟨1, _⟩ => rfl
  have hb : ∀ a, G.batchCoord (ix2 d j) a = 0 := fun a => G.batchCoord_eq_zero _ a List.not_mem_nil
  have m0 : (0 : Fin 2) ∉ G.startIndexMap := show (0 : Fin 2) ∉ [(1 : Fin 2)] by decide
  have m1 : (1 : Fin 2) ∈ G.startIndexMap := List.mem_singleton.2 rfl
  have k1 : (1 : Fin 2) ∉ G.sKept := fun hk => ((G.mem_sKept 1).1 hk).1 (List.mem_singleton.2 rfl)
  unfold Host.gather
  refine congrArg x (funext fun a => Fin.ext ?_)
  change G.start (ix2 d j) idx a + G.batchCoord (ix2 d j) a + G.offCoord (ix2 d j) a = _
  rw [hb, Nat.add_zero]
  match a with
  | ⟨0, _⟩ =>
    change G.start (ix2 d j) idx (0 : Fin 2) + G.offCoord (ix2 d j) (0 : Fin 2) = d.val
    unfold GatherDims.start
    rw [dif_neg m0, Nat.zero_add]
    rfl
  | ⟨1, _⟩ =>
    change G.start (ix2 d j) idx (1 : Fin 2) + G.offCoord (ix2 d j) (1 : Fin 2) = e.val
    unfold GatherDims.start
    rw [G.offCoord_eq_zero _ _ k1, dif_pos m1]
    change min (idx (G.siIdx (ix2 d j) ⟨0, Nat.one_pos⟩)).toInt.toNat 7 + 0 = e.val
    rw [hsi, h]
    clear h
    revert e
    decide

/-- The table of lanes holds each lane's expert. -/
theorem lit0_lane (j : Fin 128) : lit0 j = BitVec.ofNat 32 (expert j).val := by
  revert j
  decide

/-- The word of two. -/
theorem ofBits_two : Ideal.ofBits .f32 0x40000000#32 = ((2 : ℝ) : EReal) := by
  simp [Ideal.ofBits, Ideal.ieee, -EReal.coe_mul]; norm_num

variable (m : (ℓ : Loc nD τ sig) → Buf (Elt Ideal) ℓ) (c : Dev nD)

/-- The activations the region finds: the argument flattened to one row per token. -/
theorem v0_eq : (V m c main_v0 : FVec Ideal S8192x1024 .f32)
    = shapeCast S8192x1024 (m ((c : Thread nD τ).loc main_arg0)) shapeCasts_S4x2048x1024_S8192x1024 := by
  simp only [V, V0, hostOps0, List.flatten_cons, List.flatten_nil, List.append_nil, List.cons_append, List.nil_append]
  after_results_simp
  rfl

/-- The gating weights the region finds: lane `j` has its expert's column. -/
theorem v5_at (d : Fin 1024) (j : Fin 128) :
    (V m c main_v5 : FVec Ideal S1024x128 .f32) (ix2 d j) = m ((c : Thread nD τ).loc main_arg3) (ix2 d (expert j)) := by
  simp only [V, V0, hostOps0, List.flatten_cons, List.flatten_nil, List.append_nil, List.cons_append, List.nil_append]
  after_results_simp
  rw [gather_lane _ _ d j (expert j)]
  pointwise
  exact (congrArg lit0 (Fin.ext (Shape.rowMajor_val_one _))).trans (lit0_lane j)

/-- The down-projections the region finds: lane `j` has its expert's column of its rank. -/
theorem v8_at (d : Fin 1024) (j : Fin 128) :
    (V m c main_v8 : FVec Ideal S1024x128 .bf16) (ix2 d j) = m ((c : Thread nD τ).loc main_arg4) (ix3 (expert j) d (rank j)) := by
  simp only [V, V0, hostOps0, List.flatten_cons, List.flatten_nil, List.append_nil, List.cons_append, List.nil_append]
  after_results_simp
  pointwise
  rfl

/-- The up-projections the region finds: lane `j` has its expert's row of its rank, doubled. -/
theorem v12_at (j : Fin 128) (D : Fin 1024) :
    (V m c main_v12 : FVec Ideal S128x1024 .bf16) (ix2 j D)
      = (show EReal from m ((c : Thread nD τ).loc main_arg5) (ix3 (expert j) (rank j) D)) * ((2 : ℝ) : EReal) := by
  simp only [V, V0, hostOps0, List.flatten_cons, List.flatten_nil, List.append_nil, List.cons_append, List.nil_append]
  after_results_simp
  pointwise
  rw [ofBits_two]
  rfl

end Cert.KernelIdeal.Operands

end
-- ==== Proof.Reference.lean ====
/- The reference, part by part, on extended reals: the logits, the softmax of a row's two leading logits, the words the scatter
   is given and the gates it writes, and the mixture of the experts. -/
module

public import proofs.«01_k».proof.Proof.Gen.ReferenceIdeal.Run
public import proofs.«01_k».proof.Proof.Gates
public import Idealize.ShloMosaic.Lib.Pointwise
public import Idealize.ShloMosaic.Lib.Routing.OpsPair
public import Idealize.ShloMosaic.Lib.Routing.OpsSet

@[expose] public section

set_option maxRecDepth 16384

noncomputable section

namespace Cert.ReferenceIdeal.Value

open Cert.ReferenceIdeal Cert.ReferenceIdeal.Gen Cert.Gates Idealize.ShloMosaic Idealize.SL.Sem TcCoe

/-- The word of −∞. -/
theorem ofBits_neg_inf : Ideal.ofBits .f32 0xFF800000#32 = (⊥ : EReal) := by
  simp [Ideal.ofBits, Ideal.ieee]

/-- The word of two. -/
theorem ofBits_two : Ideal.ofBits .f32 0x40000000#32 = ((2 : ℝ) : EReal) := by
  simp [Ideal.ofBits, Ideal.ieee, -EReal.coe_mul]; norm_num

/-- The weights: the softmax of each row of two. -/
def weights (v : FVec Ideal S8192x2 .f32) : FVec Ideal S8192x2 .f32 :=
  Host.divf (Host.exp (subf v (broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf v (constant S_ .f32 0xFF800000#32) reducesTo_S8192x2_S8192_d1 h_S_)))))) (broadcastInDim S8192x2 ![0, 1] bcast_S8192x1_S8192x2_0_1 (broadcastInDim S8192x1 ![0] bcast_S8192_S8192x1_0 (Host.reduceAdd (Host.exp (subf v (broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf v (constant S_ .f32 0xFF800000#32) reducesTo_S8192x2_S8192_d1 h_S_)))))) (constant S_ .f32 0x00000000#32) reducesTo_S8192x2_S8192_d1 h_S_)))

/-- A weight is the softmax of its row of two. -/
theorem weights_at (v : FVec Ideal S8192x2 .f32) (t : Fin 8192) (i : Fin 2) :
    weights v (ix2 t i) = softmax (fun k => v (ix2 t k)) i := by
  pointwise [weights]
  unfold softmax top
  rw [ofBits_neg_inf, max_eq_right bot_le]

/-- The words the scatter is given: the token's own number and the expert's. -/
def places (e : IVec S8192x2 32) : IVec S8192x2x2 32 :=
  concatenate S8192x2x2 2 [⟨S8192x2x1, (broadcastInDim S8192x2x1 ![0, 1] bcast_S8192x2_S8192x2x1_0_1 (broadcastInDim S8192x2 ![0, 1] bcast_S8192x1_S8192x2_0_1 (select (cmpi .slt (broadcastInDim S8192x1 ![0] bcast_S8192_S8192x1_0 (iotaInDim S8192 32 0)) (broadcastInDim S8192x1 ![] bcast_S_S8192x1 (constantI S_ 32 0#32))) (addi (broadcastInDim S8192x1 ![0] bcast_S8192_S8192x1_0 (iotaInDim S8192 32 0)) (broadcastInDim S8192x1 ![] bcast_S_S8192x1 (constantI S_ 32 8192#32))) (broadcastInDim S8192x1 ![0] bcast_S8192_S8192x1_0 (iotaInDim S8192 32 0)))))⟩, ⟨S8192x2x1, (broadcastInDim S8192x2x1 ![0, 1] bcast_S8192x2_S8192x2x1_0_1 (select (cmpi .slt e (broadcastInDim S8192x2 ![] bcast_S_S8192x2 (constantI S_ 32 0#32))) (addi e (broadcastInDim S8192x2 ![] bcast_S_S8192x2 (constantI S_ 32 8#32))) e))⟩] concatenates_S8192x2x1_S8192x2x1_S8192x2x2_d2

/-- The first word of a token's pair is the token's number. -/
theorem places_row (e : IVec S8192x2 32) (t : Fin 8192) (i : Fin 2) :
    places e (ix3 t i 0) = BitVec.ofNat 32 t.val := by
  pointwise [places]
  exact Routing.wrap_of_lt _ _ (by rw [BitVec.toNat_ofNat]; omega)

/-- The second word is the expert's number. -/
theorem places_col (e : IVec S8192x2 32) (t : Fin 8192) (i : Fin 2) (j : Fin 8) (h : e (ix2 t i) = BitVec.ofNat 32 j.val) :
    places e (ix3 t i 1) = BitVec.ofNat 32 j.val := by
  pointwise [places]
  rw [h]
  exact Routing.wrap_of_lt _ _ (by rw [BitVec.toNat_ofNat]; omega)

/-- The gates: zero but at the two named experts of each token. -/
def gates (e : IVec S8192x2 32) (w : FVec Ideal S8192x2 .f32) : FVec Ideal S8192x8 .f32 :=
  Host.scatter scatter_S8192x8_S8192x2x2_S8192x2_n_01_01_2 (fun _ b => b) (broadcastInDim S8192x8 ![] bcast_S_S8192x8 (constant S_ .f32 0x00000000#32)) (places e) w

/-- A token's gate at an expert: its first weight at the first named expert, its second at the second, zero elsewhere. -/
theorem gates_at (e : IVec S8192x2 32) (w : FVec Ideal S8192x2 .f32) (p : Fin 8192 → Fin 2 → Fin 8)
    (hp : ∀ t, p t 0 ≠ p t 1) (he : ∀ t i, e (ix2 t i) = BitVec.ofNat 32 (p t i).val) (t : Fin 8192) (j : Fin 8) :
    gates e w (ix2 t j) = if j = p t 0 then w (ix2 t 0) else if j = p t 1 then w (ix2 t 1) else 0 := by
  have lands : ∀ (a : Fin 8192) (b : Fin 2),
      scatter_S8192x8_S8192x2x2_S8192x2_n_01_01_2.resultIdx? (ix2 a b) (places e) = some (ix2 t j) ↔ a = t ∧ p a b = j := by
    intro a b
    refine (Routing.scatter_lands2 _ rfl rfl rfl (places e) a b t j).trans ?_
    have hr : places e (ValueIdx.ix3 a b 0) = BitVec.ofNat 32 a.val := places_row e a b
    have hc : places e (ValueIdx.ix3 a b 1) = BitVec.ofNat 32 (p a b).val := places_col e a b _ (he a b)
    have ha : (BitVec.ofNat 32 a.val).toInt = (a.val : Int) := StableHlo.Predicate.toInt_ofNat_small _ (by omega)
    have hb : (BitVec.ofNat 32 (p a b).val).toInt = ((p a b).val : Int) := StableHlo.Predicate.toInt_ofNat_small _ (by omega)
    rw [hr, hc, ha, hb]
    omega
  have hit : ∀ i, p t i = j → (∀ i', p t i' = j → i' = i) → gates e w (ix2 t j) = w (ix2 t i) := by
    intro i hi hu
    refine Routing.scatter_set_hit _ _ _ _ _ _ (fun k hk => ?_) (ix2 t i) ((lands t i).2 ⟨rfl, hi⟩)
    obtain ⟨a, b, rfl⟩ : ∃ a b, k = ix2 a b := ⟨k 0, k 1, ValueIdx.eq_ix2 k⟩
    obtain ⟨rfl, hb⟩ := (lands a b).1 hk
    rw [hu b hb]
  have two : ∀ b : Fin 2, b = 0 ∨ b = 1 := by decide
  split_ifs with h0 h1
  · refine hit 0 h0.symm fun i hi => ?_
    obtain rfl | rfl := two i
    · rfl
    · exact (hp t (h0.symm.trans hi.symm)).elim
  · refine hit 1 h1.symm fun i hi => ?_
    obtain rfl | rfl := two i
    · exact (h0 hi.symm).elim
    · rfl
  · have miss : ∀ k, scatter_S8192x8_S8192x2x2_S8192x2_n_01_01_2.resultIdx? k (places e) ≠ some (ix2 t j) := by
      intro k hk
      obtain ⟨a, b, rfl⟩ : ∃ a b, k = ix2 a b := ⟨k 0, k 1, ValueIdx.eq_ix2 k⟩
      obtain ⟨rfl, hb⟩ := (lands a b).1 hk
      obtain rfl | rfl := two b
      · exact h0 hb.symm
      · exact h1 hb.symm
    refine (Routing.scatter_set_miss _ _ _ _ _ miss).trans ?_
    pointwise

/-- The result from the logits, the gates and the two projections. -/
def mixture (x : FVec Ideal S8192x1024 .f32) (g : FVec Ideal S8192x8 .f32) (a : FVec Ideal S8x1024x16 .f32) (b : FVec Ideal S8x16x1024 .f32) : FVec Ideal S8192x1024 .f32 :=
  (mulf (Host.dotGeneral dot_S8192x8x16_S8x16x1024_S8192x1024_12_01_0_2_n_n none (mulf (broadcastInDim S8192x8x16 ![0, 1, 2] bcast_S8192x8x1_S8192x8x16_0_1_2 (broadcastInDim S8192x8x1 ![0, 1] bcast_S8192x8_S8192x8x1_0_1 g)) (Host.dotGeneral dot_S8192x1024_S8x1024x16_S8192x8x16_1_1_0_02_n_n none x a)) b) (broadcastInDim S8192x1024 ![] bcast_S_S8192x1024 (constant S_ .f32 0x40000000#32)))

/-- The mixture at token `t` and feature `D`: over experts and ranks, the gated projection times the up-projection, doubled. -/
theorem mixture_at (x : FVec Ideal S8192x1024 .f32) (g : FVec Ideal S8192x8 .f32) (a : FVec Ideal S8x1024x16 .f32) (b : FVec Ideal S8x16x1024 .f32) (t : Fin 8192) (D : Fin 1024) :
    mixture x g a b (ix2 t D) = (∑ e : Fin 8, ∑ r : Fin 16, g (ix2 t e) * (∑ d, x (ix2 t d) * a (ix3 e d r)) * b (ix3 e r D)) * ((2 : ℝ) : EReal) := by
  pointwise [mixture]
  rw [ofBits_two]

/-- The logits. -/
def logits (x : FVec Ideal S8192x1024 .f32) (g : FVec Ideal S1024x8 .f32) : FVec Ideal S8192x8 .f32 :=
  Host.dotGeneral dot_S8192x1024_S1024x8_S8192x8_1_0_0_1_n_n none x g

/-- A logit is the token's row against the expert's column. -/
theorem logits_at (x : FVec Ideal S8192x1024 .f32) (g : FVec Ideal S1024x8 .f32) (t : Fin 8192) (e : Fin 8) :
    logits x g (ix2 t e) = ∑ d, x (ix2 t d) * g (ix2 d e) := by
  pointwise [logits]

end Cert.ReferenceIdeal.Value

end
-- ==== Proof.TopK.lean ====
/- What `top_k` reads along a row of extended reals: entry `i` of the values is the row's entry at position `order f i`, and
   entry `i` of the indices is that position. The positions are distinct and ordered by value, so when the first three
   values fall strictly the first two are the leaders of the row (Gates.lean `Leaders`). -/
module

public import Idealize.ShloMosaic.PureOps.Ideal
public import Idealize.ShloMosaic.Lib.SortFacts
public import Idealize.ShloMosaic.Lib.Pointwise
public import proofs.«01_k».proof.Proof.Gates

@[expose] public section

noncomputable section

namespace Cert.TopK

open Idealize.ShloMosaic

/-- Position `k` comes before position `k'` when its entry is the greater. -/
def before {n : Nat} (f : Fin n → EReal) (k k' : Fin n) : Bool := FloatOps.cmpfTotal (F := Ideal) (φ := .f32) .gt (f k) (f k') == 1#1

/-- A position comes before another when its entry is greater. -/
theorem before_iff {n : Nat} (f : Fin n → EReal) (k k' : Fin n) : before f k k' = true ↔ f k' < f k := by
  unfold before
  rw [Ideal.cmpfTotal_def]
  change (BitVec.ofBool (decide (f k' < f k)) == 1#1) = true ↔ _
  by_cases h : f k' < f k <;> simp [h]

/-- The position of the row's `i`-th greatest entry. -/
def order {n : Nat} (f : Fin n → EReal) : Fin n → Fin n := sortedFrom (before f)

/-- No position is listed twice. -/
theorem order_injective {n : Nat} (f : Fin n → EReal) : Function.Injective (order f) := sortedFrom_injective _

/-- Every position is listed. -/
theorem order_surjective {n : Nat} (f : Fin n → EReal) : Function.Surjective (order f) := sortedFrom_surjective _

/-- The entries fall along the order. -/
theorem order_le {n : Nat} (f : Fin n → EReal) (i j : Fin n) (h : i < j) : f (order f j) ≤ f (order f i) := by
  have hb : ∀ a b, before f a b = false ↔ f a ≤ f b := fun a b => by
    rw [← Bool.not_eq_true, before_iff, not_lt]
  refine (hb _ _).1 (sortedFrom_noInversion (before f) (before f) (fun a b hab => ?_) (fun _ _ hab => hab) (fun a b c hab hbc => ?_) i j h)
  · exact (hb _ _).2 ((before_iff f _ _).1 hab).le
  · exact (hb _ _).2 (((hb _ _).1 hab).trans ((hb _ _).1 hbc))

/-- When the three greatest of eight entries fall strictly, the first from below +∞, the first two lead the row. -/
theorem leaders (f : Fin 8 → EReal) (h0 : f (order f 0) < ⊤) (h1 : f (order f 1) < f (order f 0)) (h2 : f (order f 2) < f (order f 1)) :
    Gates.Leaders f (order f 0) (order f 1) where
  finite := h0
  second := bot_le.trans_lt h2
  first := h1
  others e he0 he1 := by
    obtain ⟨i, rfl⟩ := order_surjective f e
    have hi0 : i ≠ 0 := fun h => he0 (h ▸ rfl)
    have hi1 : i ≠ 1 := fun h => he1 (h ▸ rfl)
    by_cases hi2 : i = 2
    · exact hi2 ▸ h2
    · exact (order_le f 2 i (by omega)).trans_lt h2

/-- The index of row `r` at position `k` of the second axis. -/
theorem along_row {R n : Nat} (r : Fin R) (e k : Fin n) : (ix2 r e).along (s := ⟨2, ![R, n]⟩) 1 k = ix2 r k := by
  funext a
  unfold Shape.Idx.along
  match a with
  | ⟨0, _⟩ => exact Function.update_of_ne (fun h => absurd (congrArg Fin.val h) Nat.zero_ne_one) _ _
  | ⟨1, _⟩ => exact Function.update_self _ _ _

/-- A slice from the origin reads its operand at the same index. -/
theorem slice_row {α : Type} {R n k : Nat} (x : (⟨2, ![R, n]⟩ : Shape).Idx → α)
    (h : (⟨2, ![R, n]⟩ : Shape).Slices (fun _ => 0) ⟨2, ![R, k]⟩) (hk : k ≤ n) (r : Fin R) (i : Fin k) :
    extractStridedSlice ⟨2, ![R, k]⟩ (fun _ => 0) x h (ix2 r i) = x (ix2 r (Fin.castLE hk i)) := by
  unfold extractStridedSlice
  refine congrArg x (funext fun a => Fin.ext ?_)
  match a with
  | ⟨0, _⟩ => exact Nat.zero_add _
  | ⟨1, _⟩ => exact Nat.zero_add _

/-- Entry `i` of row `r` of the values. -/
theorem values_at {R n k : Nat} (x : FVec Ideal ⟨2, ![R, n]⟩ .f32) (h : (⟨2, ![R, n]⟩ : Shape).Slices (fun _ => 0) ⟨2, ![R, k]⟩)
    (hk : k ≤ n) (r : Fin R) (i : Fin k) :
    (Host.topK ⟨2, ![R, k]⟩ 1 (FloatOps.cmpfTotal .gt) x h).1 (ix2 r i)
      = x (ix2 r (order (fun e => x (ix2 r e)) (Fin.castLE hk i))) := by
  unfold Host.topK
  dsimp only
  refine (slice_row _ h hk r i).trans ?_
  unfold Host.sort2
  rw [dif_pos Nat.one_lt_two]
  refine (congrArg x (along_row r _ _)).trans (congrArg (fun e => x (ix2 r e)) ?_)
  refine congrArg (fun b => sortedFrom b (Fin.castLE hk i)) (funext fun k => funext fun k' => ?_)
  exact congrArg₂ (fun a b => FloatOps.cmpfTotal (F := Ideal) (φ := .f32) .gt (x a) (x b) == 1#1) (along_row r _ k) (along_row r _ k')

/-- Entry `i` of row `r` of the indices. -/
theorem indices_at {R n k : Nat} (x : FVec Ideal ⟨2, ![R, n]⟩ .f32) (h : (⟨2, ![R, n]⟩ : Shape).Slices (fun _ => 0) ⟨2, ![R, k]⟩)
    (hk : k ≤ n) (r : Fin R) (i : Fin k) :
    (Host.topK ⟨2, ![R, k]⟩ 1 (FloatOps.cmpfTotal .gt) x h).2 (ix2 r i)
      = BitVec.ofNat 32 (order (fun e => x (ix2 r e)) (Fin.castLE hk i)).val := by
  unfold Host.topK
  dsimp only
  refine (slice_row _ h hk r i).trans ?_
  unfold Host.sort2
  rw [dif_pos Nat.one_lt_two]
  dsimp only
  refine (dif_pos Nat.one_lt_two).trans ?_
  refine congrArg (BitVec.ofNat 32) ?_
  refine (congrArg (fun j : (⟨2, ![R, n]⟩ : Shape).Idx => (j 1).val) (along_row r _ _)).trans (congrArg Fin.val ?_)
  refine congrArg (fun b => sortedFrom b (Fin.castLE hk i)) (funext fun k => funext fun k' => ?_)
  exact congrArg₂ (fun a b => FloatOps.cmpfTotal (F := Ideal) (φ := .f32) .gt (x a) (x b) == 1#1) (along_row r _ k) (along_row r _ k')

end Cert.TopK

end
-- ==== Proof.Equation.lean ====
/- The equation at one entry: the kernel's sum over the 128 lanes is the reference's mixture over the 8 experts and 16 ranks. -/
module

public import proofs.«01_k».proof.Proof.KernelValue
public import proofs.«01_k».proof.Proof.Operands
public import proofs.«01_k».proof.Proof.Reference
public import proofs.«01_k».proof.Proof.TopK

@[expose] public section

set_option maxRecDepth 16384

noncomputable section

namespace Cert.Equation

open Cert.Gates Cert.KernelIdeal.Operands Cert.ReferenceIdeal Cert.ReferenceIdeal.Gen Cert.ReferenceIdeal.Value Idealize.ShloMosaic

/-- A lane is an expert and a rank. -/
def lane : Fin 8 × Fin 16 ≃ Fin 128 where
  toFun p := ⟨p.1.val * 16 + p.2.val, by omega⟩
  invFun c := (expert c, rank c)
  left_inv p := Prod.ext (Fin.ext (show (p.1.val * 16 + p.2.val) / 16 = p.1.val by omega))
    (Fin.ext (show (p.1.val * 16 + p.2.val) % 16 = p.2.val by omega))
  right_inv c := Fin.ext (show c.val / 16 * 16 + c.val % 16 = c.val by omega)

/-- The expert of a lane built from an expert and a rank. -/
theorem expert_lane (e : Fin 8) (r : Fin 16) : expert (lane (e, r)) = e := congrArg Prod.fst (lane.left_inv (e, r))

/-- The rank of a lane built from an expert and a rank. -/
theorem rank_lane (e : Fin 8) (r : Fin 16) : rank (lane (e, r)) = r := congrArg Prod.snd (lane.left_inv (e, r))

/-- Every expert has a lane. -/
theorem expert_surjective : Function.Surjective expert := fun e => ⟨lane (e, 0), expert_lane e 0⟩

/-- A sum over the lanes is the sum over the experts of the sums over the ranks. -/
theorem sum_lane (f : Fin 128 → EReal) : ∑ c, f c = ∑ e, ∑ r, f (lane (e, r)) := by
  rw [← lane.sum_comp, Fintype.sum_prod_type]

variable (x : FVec Ideal S8192x1024 .f32) (g : FVec Ideal S1024x8 .f32) (a : FVec Ideal S8x1024x16 .f32) (b : FVec Ideal S8x16x1024 .f32)

/-- The reference's gates: the softmax of each token's two leading logits, at their experts. -/
def refGates : FVec Ideal S8192x8 .f32 :=
  gates (Host.topK S8192x2 1 (FloatOps.cmpfTotal .gt) (logits x g) sliceFits_S8192x8_S8192x2).2
    (weights (Host.topK S8192x2 1 (FloatOps.cmpfTotal .gt) (logits x g) sliceFits_S8192x8_S8192x2).1)

/-- A token's logits. -/
def logit (t : Fin 8192) (e : Fin 8) : EReal := ∑ d : Fin 1024, x (ix2 t d) * g (ix2 d e)

/-- The kernel's gate at a lane is the reference's at the lane's expert, of a token whose two leading logits are untied. -/
theorem gate_eq (t : Fin 8192) (H : Leaders (logit x g t) (TopK.order (logit x g t) 0) (TopK.order (logit x g t) 1)) (c : Fin 128) :
    laneGate (fun c => logit x g t (expert c)) c = refGates x g (ix2 t (expert c)) := by
  have hl : ∀ t, (fun e => logits x g (ix2 t e)) = logit x g t := fun t => funext fun e => logits_at x g t e
  let v : FVec Ideal S8192x2 .f32 := (Host.topK S8192x2 1 (FloatOps.cmpfTotal .gt) (logits x g) sliceFits_S8192x8_S8192x2).1
  have hv : ∀ i : Fin 2, v (ix2 t i) = logit x g t (TopK.order (logit x g t) (Fin.castLE (by decide) i)) := fun i => by
    refine (TopK.values_at (logits x g) _ (by decide) t i).trans ?_
    rw [hl, logits_at]
    rfl
  rw [laneGate_leaders expert H expert_surjective (fun i => v (ix2 t i)) (hv 0) (hv 1) c]
  refine Eq.symm ((gates_at _ (weights v) (fun t i => TopK.order (logit x g t) (Fin.castLE (by decide) i)) (fun t h => ?_) (fun t i => ?_) t (expert c)).trans ?_)
  · exact absurd (TopK.order_injective _ h) (by decide)
  · refine (TopK.indices_at (logits x g) _ (by decide) t i).trans ?_
    rw [hl]
  · rw [weights_at, weights_at]
    rfl

/-- The two sides at token `t` and output feature `D`. -/
theorem entry_eq (t : Fin 8192) (D : Fin 1024)
    (H : Leaders (logit x g t) (TopK.order (logit x g t) 0) (TopK.order (logit x g t) 1)) :
    KernelIdeal.Block.entry (fun d => x (ix2 t d)) (fun d c => g (ix2 d (expert c))) (fun d c => a (ix3 (expert c) d (rank c)))
        (fun c => (show EReal from b (ix3 (expert c) (rank c) D)) * ((2 : ℝ) : EReal))
      = mixture x (refGates x g) a b (ix2 t D) := by
  rw [mixture_at, sum_mul_two]
  unfold KernelIdeal.Block.entry
  rw [sum_lane]
  refine Finset.sum_congr rfl fun e _ => ?_
  rw [sum_mul_two]
  refine Finset.sum_congr rfl fun r _ => ?_
  have hg := gate_eq x g t H (lane (e, r))
  unfold logit at hg
  rw [hg]
  simp only [expert_lane, rank_lane]
  exact (mul_assoc _ _ _).symm.trans (congrArg (fun y => y * _ * ((2 : ℝ) : EReal)) (mul_comm _ _))

end Cert.Equation

end
-- ==== Proof.Precondition.lean ====
/- What the precondition says of a token: its greatest logit is below +∞, and is above the second, which is above the third. -/
module

public import proofs.«01_k».proof.Proof.Gen.Pre_top_two_untied
public import proofs.«01_k».proof.Proof.TopK
public import Idealize.ShloMosaic.Lib.Pointwise
public import Idealize.ShloMosaic.Lib.WordArith
public import Idealize.ShloMosaic.Lib.IdealHost

@[expose] public section

set_option maxRecDepth 16384

noncomputable section

namespace Cert.Pre_top_two_untied

open Idealize.ShloMosaic Facts

variable [Facts]

/-- The comparisons the precondition makes of the three leading logits. -/
def test (v : FVec Ideal S8192x3 .f32) : IVec S8192 1 :=
  andi (cmpf .olt (shapeCast S8192 (extractStridedSlice S8192x1 ![0, 0] v slices_S8192x3_S8192x1_0_0) shapeCasts_S8192x1_S8192) (broadcastInDim S8192 ![] bcast_S_S8192 (constant S_ .f32 0x7F800000#32)))
    (andi (cmpf .ogt (shapeCast S8192 (extractStridedSlice S8192x1 ![0, 0] v slices_S8192x3_S8192x1_0_0) shapeCasts_S8192x1_S8192) (shapeCast S8192 (extractStridedSlice S8192x1 ![0, 1] v slices_S8192x3_S8192x1_0_1) shapeCasts_S8192x1_S8192))
      (cmpf .ogt (shapeCast S8192 (extractStridedSlice S8192x1 ![0, 1] v slices_S8192x3_S8192x1_0_1) shapeCasts_S8192x1_S8192) (shapeCast S8192 (extractStridedSlice S8192x1 ![0, 2] v slices_S8192x3_S8192x1_0_2) shapeCasts_S8192x1_S8192)))

/-- Where the comparisons hold of a token, its three leading logits fall strictly from below +∞. -/
theorem test_at (v : FVec Ideal S8192x3 .f32) (t : Fin 8192) (h : test v (ix1 t) = 1#1) :
    v (ix2 t 0) < (⊤ : EReal) ∧ v (ix2 t 1) < v (ix2 t 0) ∧ v (ix2 t 2) < v (ix2 t 1) := by
  revert h
  pointwise [test]
  have top_word : Ideal.ofBits .f32 0x7F800000#32 = (⊤ : EReal) := by simp [Ideal.ofBits, Ideal.ieee]
  rw [top_word]
  have bit : ∀ a b : Bool, IntOp.andi (BitVec.ofBool a) (BitVec.ofBool b) = BitVec.ofBool (a && b) := by decide
  have one : ∀ a : Bool, BitVec.ofBool a = 1#1 ↔ a = true := by decide
  rw [bit, bit, one, Bool.and_eq_true, Bool.and_eq_true, decide_eq_true_iff, decide_eq_true_iff, decide_eq_true_iff]
  exact id

/-- The logits of the token flattened to row `t`. -/
def logit (x : FVec Ideal S4x2048x1024 .f32) (g : FVec Ideal S1024x8 .f32) (t : Fin 8192) (e : Fin 8) : EReal :=
  ∑ d : Fin 1024, shapeCast S8192x1024 x shapeCasts_S4x2048x1024_S8192x1024 (ix2 t d) * g (ix2 d e)

/-- Where the precondition holds, every token's two greatest logits lead strictly. -/
theorem leads (x : FVec Ideal S4x2048x1024 .f32) (p q : IVec S_ 32) (g : FVec Ideal S1024x8 .f32) (a : FVec Ideal S8x1024x16 .f32)
    (b : FVec Ideal S8x16x1024 .f32) (h : fn x p q g a b = fun _ => 1#1) (t : Fin 8192) :
    Gates.Leaders (logit x g t) (TopK.order (logit x g t) 0) (TopK.order (logit x g t) 1) := by
  have hl : ∀ e, Host.dotGeneral dot_S8192x1024_S1024x8_S8192x8_1_0_0_1_n_n none
      (shapeCast S8192x1024 x shapeCasts_S4x2048x1024_S8192x1024) g (ix2 t e) = logit x g t e := by
    intro e
    pointwise [logit]
  let v : FVec Ideal S8192x3 .f32 := (Host.topK S8192x3 1 (FloatOps.cmpfTotal .gt)
    (Host.dotGeneral dot_S8192x1024_S1024x8_S8192x8_1_0_0_1_n_n none
      (shapeCast S8192x1024 x shapeCasts_S4x2048x1024_S8192x1024) g) sliceFits_S8192x8_S8192x3).1
  have hv : ∀ i : Fin 3, v (ix2 t i) = logit x g t (TopK.order (logit x g t) (Fin.castLE (by decide) i)) := fun i =>
    (TopK.values_at _ _ (by decide) t i).trans (by simp only [hl])
  have h' := test_at v t (congrFun h (ix1 t))
  rw [hv, hv, hv] at h'
  exact TopK.leaders _ h'.1 h'.2.1 h'.2.2

end Cert.Pre_top_two_untied

end
-- ==== Proof.Result.lean ====
/- What the two programs' results hold: from memories that agree on the arguments, with the top two logits of every token
   untied, the kernel's result is the reference's (`result_eq`), and each program's run read at its result. -/
module

public import proofs.«01_k».proof.Defs
public import proofs.«01_k».proof.Proof.Equation
public import proofs.«01_k».proof.Proof.Precondition

@[expose] public section

set_option maxRecDepth 16384

noncomputable section

namespace Cert.Result

open Idealize.ShloMosaic Idealize.SL.Sem TcCoe

section Kernel

open Cert.KernelIdeal Cert.KernelIdeal.Gen

variable (m : (ℓ : Loc nD τ sig) → Buf (Elt Ideal) ℓ) (ρ : Dev nD → PrngReg) (c : Dev nD)

/-- The activations flattened to one row per token. -/
def rows : FVec Ideal S8192x1024 .f32 :=
  shapeCast S8192x1024 (m ((c : Thread nD τ).loc main_arg0)) shapeCasts_S4x2048x1024_S8192x1024

/-- The region's array is the reference's mixture, of a memory the precondition holds of. -/
theorem target_eq [Cert.Pre_top_two_untied.Facts] (h : Cert.Pre_KernelIdeal_top_two_untied m) :
    Array.target m c = ReferenceIdeal.Value.mixture (rows m c) (Equation.refGates (rows m c) (m ((c : Thread nD τ).loc main_arg3)))
      (m ((c : Thread nD τ).loc main_arg4)) (m ((c : Thread nD τ).loc main_arg5)) := by
  funext i
  obtain ⟨t, D, rfl⟩ : ∃ t D, i = ix2 t D := ⟨i 0, i 1, ValueIdx.eq_ix2 i⟩
  refine Eq.trans ?_ (Equation.entry_eq (rows m c) (m ((c : Thread nD τ).loc main_arg3)) _ _ t D
    (Pre_top_two_untied.leads _ _ _ _ _ _ (h c) t))
  have e0 : ∀ d, (V m c main_v0 : FVec Ideal S8192x1024 .f32) (ix2 t d) = rows m c (ix2 t d) := fun d =>
    congrFun (Operands.v0_eq m c) _
  change Block.entry (fun d => (V m c main_v0 : FVec Ideal S8192x1024 .f32) (ix2 t d))
    (fun d j => (V m c main_v5 : FVec Ideal S1024x128 .f32) (ix2 d j))
    (fun d j => (V m c main_v8 : FVec Ideal S1024x128 .bf16) (ix2 d j))
    (fun j => (V m c main_v12 : FVec Ideal S128x1024 .bf16) (ix2 j D)) = _
  rw [funext e0, funext fun d => funext fun j => Operands.v5_at m c d j, funext fun d => funext fun j => Operands.v8_at m c d j,
    funext fun j => Operands.v12_at m c j D]

/-- The kernel's run: its result ends at the region's array reshaped, its arguments as they were. -/
theorem kernel_run : θ_run defs (onTc (τ := τ) (main (F := Ideal))) ⟨m, fun _ => 0, ρ⟩ (fun r => ∀ c : Dev nD,
      r.2.mem ((c.tc : Thread nD τ).loc main_v14) = shapeCast S4x2048x1024 (Array.target m c) shapeCasts_S8192x1024_S4x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, h.2 c⟩) (θ_run_and (run_main m ρ) (unchanged m ρ))
  exact ((h.1 c).2 main_v14 (Pipeline.mem_restRefs_of main_v14 (by decide) (by decide))).trans (Array.result_eq m c)

end Kernel

/-- The reference's result term is its mixture reshaped. -/
theorem reference_eq (m : (ℓ : Loc ReferenceIdeal.nD ReferenceIdeal.τ ReferenceIdeal.sig) → Buf (Elt Ideal) ℓ) (c : Dev ReferenceIdeal.nD)
    (x : FVec Ideal ReferenceIdeal.S8192x1024 .f32)
    (hx : x = shapeCast ReferenceIdeal.S8192x1024 (m ((c : Thread ReferenceIdeal.nD ReferenceIdeal.τ).loc ReferenceIdeal.main_arg0))
      ReferenceIdeal.Facts₀.shapeCasts_S4x2048x1024_S8192x1024) :
    ReferenceIdeal.Value.res_main_v38 m c
      = shapeCast ReferenceIdeal.S4x2048x1024
          (ReferenceIdeal.Value.mixture x (Equation.refGates x (m ((c : Thread ReferenceIdeal.nD ReferenceIdeal.τ).loc ReferenceIdeal.main_arg3)))
            (m ((c : Thread ReferenceIdeal.nD ReferenceIdeal.τ).loc ReferenceIdeal.main_arg4))
            (m ((c : Thread ReferenceIdeal.nD ReferenceIdeal.τ).loc ReferenceIdeal.main_arg5)))
          ReferenceIdeal.Facts₀.shapeCasts_S8192x1024_S4x2048x1024 := by
  subst hx
  rfl

end Cert.Result

end
-- ==== Proof.lean ====
/- The proof of the claim: the three programs run and leave their arguments alone; the one named constant reads as +∞; and
   from memories that agree on the arguments, with the two greatest logits of every token untied, the kernel's result and the
   reference's are the same array of extended reals (Proof/Result.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_top_two_untied
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and no semaphore is left raised: it has none. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's word is printed as the name the table gives +∞. -/
theorem preserves : Cert.preserves_Kernel_KernelIdeal :=
  IdealRules.named_const.statement Cert.KernelIdeal.κ "mask" .f32 0x7149F2CA#32 ⊤ rfl

/-- The two results are the same array: the kernel's region leaves the reference's mixture, and both reshape it alike. -/
theorem algebraic : Cert.algebraic_KernelIdeal_ReferenceIdeal_pre_top_two_untied := by
  intro m ρ m' ρ' hpre hagree
  refine ⟨_, Cert.Result.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, _, _, h3, h4, h5⟩ := hagree c
  rw [Cert.Result.target_eq m c hpre]
  refine (Cert.Result.reference_eq m' c (Cert.Result.rows m c) ?_).trans ?_
  · rw [h0]
    rfl
  · rw [h3, h4, h5]

/-- All the claims. -/
theorem claim : Cert.Claim :=
  ⟨Cert.Kernel.Gen.facts, Cert.KernelIdeal.Gen.facts, Cert.ReferenceIdeal.Gen.facts, Cert.Pre_top_two_untied.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserves, algebraic⟩

end Cert.Proof

end
